-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2048x128 : Shape := ⟨2, ![2048, 128]⟩
abbrev S512x128 : Shape := ⟨2, ![512, 128]⟩
abbrev S_ : Shape := ⟨0, ![]⟩

class Facts : Prop where
  bcast_S_S2048x128 : S_.BroadcastsInDim S2048x128 (![] : Fin 0 → Fin S2048x128.rank)
  bcast_S_S512x128 : S_.BroadcastsInDim S512x128 (![] : Fin 0 → Fin S512x128.rank)

variable [Facts]

def fn {F : FTy → Type} [FloatOps F] (main_arg0 : FVec F S2048x128 .f32) (main_arg1 : FVec F S512x128 .f32) : IVec S2048x128 1 × IVec S512x128 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_v3 : FVec F S512x128 .f32 := Host.absf main_arg1
  let main_cst_0 : FVec F S_ .f32 := constant S_ .f32 0x7F800000#32
  let main_v4 : FVec F S512x128 .f32 := broadcastInDim S512x128 ![] bcast_S_S512x128 main_cst_0
  let main_v5 : IVec S512x128 1 := cmpf .olt main_v3 main_v4
  (main_v2, main_v5)
-- ==== Kernel.lean ====
abbrev S2048x128 : Shape := ⟨2, ![2048, 128]⟩
abbrev S512x128 : Shape := ⟨2, ![512, 128]⟩
abbrev S128x512 : Shape := ⟨2, ![128, 512]⟩
abbrev S1x1 : Shape := ⟨2, ![1, 1]⟩
abbrev S2048x512 : Shape := ⟨2, ![2048, 512]⟩
abbrev S512 : Shape := ⟨1, ![512]⟩
abbrev S1x512 : Shape := ⟨2, ![1, 512]⟩
abbrev S2048 : Shape := ⟨1, ![2048]⟩
abbrev S1x2048 : Shape := ⟨2, ![1, 2048]⟩
abbrev S1 : Shape := ⟨1, ![1]⟩
abbrev S1x2048x128 : Shape := ⟨3, ![1, 2048, 128]⟩
abbrev S1x1x1 : Shape := ⟨3, ![1, 1, 1]⟩
abbrev S_ : Shape := ⟨0, ![]⟩

abbrev nBuf : Space → Nat
  | .hbm => 5
  | .vmem => 3
  | .smem => 0
  | _ => 0

abbrev bufTy : (tb : Table) → Fin (tcTables nBuf tb) → BufTy
  | .hbm, ⟨0, _⟩ => ⟨S2048x128, .f32⟩
  | .hbm, ⟨1, _⟩ => ⟨S512x128, .f32⟩
  | .hbm, ⟨2, _⟩ => ⟨S128x512, .f32⟩
  | .hbm, ⟨3, _⟩ => ⟨S1x1, .f32⟩
  | .hbm, ⟨4, _⟩ => ⟨S_, .f32⟩
  | .local _ .vmem, ⟨0, _⟩ => ⟨S2048x128, .f32⟩
  | .local _ .vmem, ⟨1, _⟩ => ⟨S128x512, .f32⟩
  | .local _ .vmem, ⟨2, _⟩ => ⟨S1x1, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x128 : Shape := ⟨2, ![2048, 128]⟩
abbrev S512x128 : Shape := ⟨2, ![512, 128]⟩
abbrev S2048x1x128 : Shape := ⟨3, ![2048, 1, 128]⟩
abbrev S1x512x128 : Shape := ⟨3, ![1, 512, 128]⟩
abbrev S2048x512x128 : Shape := ⟨3, ![2048, 512, 128]⟩
abbrev S_ : Shape := ⟨0, ![]⟩
abbrev S2048x512 : Shape := ⟨2, ![2048, 512]⟩
abbrev S2048 : Shape := ⟨1, ![2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S512x128, .f32⟩
  | .hbm, ⟨2, _⟩ => ⟨S2048x1x128, .f32⟩
  | .hbm, ⟨3, _⟩ => ⟨S1x512x128, .f32⟩
  | .hbm, ⟨4, _⟩ => ⟨S2048x512x128, .f32⟩
  | .hbm, ⟨5, _⟩ => ⟨S2048x512x128, .f32⟩
  | .hbm, ⟨6, _⟩ => ⟨S2048x512x128, .f32⟩
  | .hbm, ⟨7, _⟩ => ⟨S2048x512x128, .f32⟩
  | .hbm, ⟨8, _⟩ => ⟨S_, .f32⟩
  | .hbm, ⟨9, _⟩ => ⟨S2048x512, .f32⟩
  | .hbm, ⟨10, _⟩ => ⟨S_, .f32⟩
  | .hbm, ⟨11, _⟩ => ⟨S2048, .f32⟩
  | .hbm, ⟨12, _⟩ => ⟨S_, .f32⟩
  | .hbm, ⟨13, _⟩ => ⟨S_, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Proof.Literals.lean ====
/-
  The float literals both programs and the precondition use, at exact arithmetic.
-/
module

public import Idealize.ShloMosaic.PureOps.Ideal
public import Idealize.ShloMosaic.PureOps.Ideal.Laws

@[expose] public section

namespace Cert.Proof.Literals

open Idealize.ShloMosaic

/-- The sums start from zero. -/
theorem bits_zero : Ideal.ofBits .f32 0x00000000#32 = 0 := by simp [Ideal.ofBits, Ideal.ieee]

/-- The scalar the inner products are multiplied by is two. -/
theorem bits_two : Ideal.ofBits .f32 0x40000000#32 = 2 := by
  simp [Ideal.ofBits, Ideal.ieee]
  rw [← EReal.coe_mul]
  norm_num
  rfl

/-- The minimum starts from the top of the extended reals, which is also what the precondition compares with. -/
theorem bits_top : Ideal.ofBits .f32 0x7F800000#32 = ⊤ := by simp [Ideal.ofBits, Ideal.ieee]

end Cert.Proof.Literals
-- ==== Proof.Finite.lean ====
/-
  The precondition. `finite` compares the absolute value of every argument element with `+∞`; where all the comparisons
  hold, each element is a real number (`points_real`, `targets_real`).
-/
module

public import proofs.«01_k».proof.Proof.Gen.Pre_finite
public import proofs.«01_k».proof.Proof.Literals
public import Idealize.ShloMosaic.PureOps.Ideal
public import Idealize.ShloMosaic.PureOps.Ideal.Laws

@[expose] public section

noncomputable section

namespace Cert.Proof.Finite

open Cert.Pre_finite Idealize.ShloMosaic

/-- An extended real whose absolute value is below `⊤` is a real number. -/
theorem real_of_abs_lt_top (a : EReal) (h : max a (-a) < ⊤) : ∃ r : ℝ, a = r := by
  obtain ⟨h₁, h₂⟩ := max_lt_iff.mp h
  refine ⟨a.toReal, (EReal.coe_toReal h₁.ne ?_).symm⟩
  rintro rfl
  exact absurd h₂ (by simp)

/-- One comparison of the predicate, read: the element compared is a real number. -/
theorem real_of_cmp (a : EReal) (h : Ideal.cmp .olt (max a (-a)) (Ideal.ofBits .f32 0x7F800000#32) = 1#1) :
    ∃ r : ℝ, a = r := by
  refine real_of_abs_lt_top a ?_
  rw [Literals.bits_top] at h
  by_contra hn
  simp [Ideal.cmp, hn] at h

variable (x : FVec Ideal S2048x128 .f32) (t : FVec Ideal S512x128 .f32)

/-- Every coordinate of every point is a real number. -/
theorem points_real [Facts] (h : (fn (F := Ideal) x t).1 = fun _ => 1#1) (i : S2048x128.Idx) : ∃ r : ℝ, x i = r :=
  real_of_cmp (x i) (congrFun h i)

/-- Every coordinate of every target is a real number. -/
theorem targets_real [Facts] (h : (fn (F := Ideal) x t).2 = fun _ => 1#1) (i : S512x128.Idx) : ∃ r : ℝ, t i = r :=
  real_of_cmp (t i) (congrFun h i)

end Cert.Proof.Finite

end
-- ==== Proof.Maths.lean ====
/-
  The mathematics, on extended reals and with no program in sight.

  `p q d` is coordinate `d` of point `q`, `t k d` coordinate `d` of target `k`. The kernel takes, for each point, the
  least of `|t k|² - 2 ⟨p q, t k⟩` over the targets, adds these up, and adds the sum of every `|p q|²` once at the end
  (`expanded`). The reference takes for each point the least of `|t k - p q|²` and adds these up (`direct`). For finite
  coordinates the two agree (`expanded_eq_direct`): the squared distance is `|t k|² - 2 ⟨p q, t k⟩ + |p q|²`, and the
  last term does not depend on `k`, so it comes out of the minimum.

  The minimum is the fold of `min` from `⊤`, as both programs write it.
-/
module

public import Mathlib.Data.EReal.Operations
public import Mathlib.Algebra.BigOperators.Fin
public import Mathlib.Algebra.BigOperators.Ring.Finset
public import Mathlib.Data.Finset.Fold
public import Mathlib.Tactic.Ring

@[expose] public section

noncomputable section

namespace Cert.Proof.Maths

variable {n m d : ℕ}

/-- The least value of `f` over `Fin m`, as a fold of `min` from `⊤`. -/
def least (f : Fin m → EReal) : EReal := (Finset.univ : Finset (Fin m)).fold min ⊤ f

/-- What the kernel computes: the square of the points is kept out of the minimum and added once. -/
def expanded (p : Fin n → Fin d → EReal) (t : Fin m → Fin d → EReal) : EReal :=
  (∑ q, least fun k => (∑ e, t k e * t k e) - 2 * ∑ e, p q e * t k e) + ∑ q, ∑ e, p q e * p q e

/-- What the reference computes: each point's least squared distance, summed. -/
def direct (p : Fin n → Fin d → EReal) (t : Fin m → Fin d → EReal) : EReal :=
  ∑ q, least fun k => ∑ e, (t k e - p q e) * (t k e - p q e)

/-- A real number common to all candidates comes out of a least value. -/
theorem least_add_real (f : Fin m → EReal) (b : ℝ) : least (fun k => f k + (b : EReal)) = least f + (b : EReal) := by
  unfold least
  induction (Finset.univ : Finset (Fin m)) using Finset.induction_on with
  | empty => exact (EReal.top_add_coe b).symm
  | insert k s hk ih => rw [Finset.fold_insert hk, Finset.fold_insert hk, ih, min_add_add_right]

/-- A sum of real numbers is the same taken among the reals or among the extended reals. -/
theorem sum_coe {ι : Type} [Fintype ι] (f : ι → ℝ) : ∑ i, (f i : EReal) = ((∑ i, f i : ℝ) : EReal) := by
  classical
  induction (Finset.univ : Finset ι) using Finset.induction_on with
  | empty => simp
  | insert i s hi ih => rw [Finset.sum_insert hi, Finset.sum_insert hi, ih, EReal.coe_add]

/-- The square expanded, summed over the coordinates: among the reals, … -/
theorem square_expanded_real (x y : Fin d → ℝ) :
    ∑ e, (y e - x e) * (y e - x e) = ((∑ e, y e * y e) - 2 * ∑ e, x e * y e) + ∑ e, x e * x e := by
  rw [Finset.mul_sum, ← Finset.sum_sub_distrib, ← Finset.sum_add_distrib]
  exact Finset.sum_congr rfl fun e _ => by ring

/-- … and among the extended reals, at real coordinates. -/
theorem square_expanded (x y : Fin d → ℝ) :
    ∑ e, ((y e : EReal) - x e) * ((y e : EReal) - x e)
      = ((∑ e, (y e : EReal) * y e) - 2 * ∑ e, (x e : EReal) * y e) + ((∑ e, x e * x e : ℝ) : EReal) := by
  have h2 : (2 : EReal) = ((2 : ℝ) : EReal) := rfl
  rw [h2]
  simp only [← EReal.coe_sub, ← EReal.coe_mul, sum_coe, ← EReal.coe_add]
  rw [square_expanded_real]

/-- For real coordinates the two computations agree, … -/
theorem expanded_eq_direct_real (x : Fin n → Fin d → ℝ) (y : Fin m → Fin d → ℝ) :
    expanded (fun q e => (x q e : EReal)) (fun k e => (y k e : EReal))
      = direct (fun q e => (x q e : EReal)) (fun k e => (y k e : EReal)) := by
  unfold expanded direct
  rw [← Finset.sum_add_distrib]
  refine Finset.sum_congr rfl fun q _ => ?_
  simp only [square_expanded, least_add_real]
  simp only [← EReal.coe_mul, sum_coe]

/-- … hence for extended-real coordinates each of which is some real number. -/
theorem expanded_eq_direct (p : Fin n → Fin d → EReal) (t : Fin m → Fin d → EReal)
    (hp : ∀ q e, ∃ r : ℝ, p q e = r) (ht : ∀ k e, ∃ r : ℝ, t k e = r) : expanded p t = direct p t := by
  choose x hx using hp
  choose y hy using ht
  obtain rfl : p = fun q e => (x q e : EReal) := funext fun q => funext fun e => hx q e
  obtain rfl : t = fun k e => (y k e : EReal) := funext fun k => funext fun e => hy k e
  exact expanded_eq_direct_real x y

end Cert.Proof.Maths

end
-- ==== Proof.KernelBlock.lean ====
/-
  What the kernel body stores. The body loads the points (`x`, 2048 × 128) and the transposed targets (`y`, 128 × 512)
  whole and stores one number. Here that number is read, operation by operation, as `Maths.expanded` of the two arrays
  (`stored_eq`): at exact arithmetic the matrix product is the inner products, the three additive reductions are plain
  sums, and the minimum over the targets is the fold of `min` from `⊤`.
-/
module

public import proofs.«01_k».proof.Proof.Maths
public import proofs.«01_k».proof.Proof.Literals
public import proofs.«01_k».proof.Proof.Gen.KernelIdeal.Skeleton
public import Idealize.ShloMosaic.Lib.ValueIdx
public import Idealize.ShloMosaic.Lib.ValueIdxRank1
public import Idealize.ShloMosaic.Lib.Pipeline.Value
public import Idealize.ShloMosaic.PureOps.Ideal.Laws

@[expose] public section

noncomputable section

namespace Cert.Proof.KernelBlock

open Cert.Proof.Literals Cert.KernelIdeal Cert.KernelIdeal.Gen Idealize.ShloMosaic Idealize.ShloMosaic.ValueIdx

/-! ## The pieces -/

variable (x : FVec Ideal S2048x128 .f32) (y : FVec Ideal S128x512 .f32)

/-- The matrix product at point `q` and target `k` is their inner product. -/
theorem product_apply (q : Fin 2048) (k : Fin 512) :
    matmul dot_S2048x128_S128x512_S2048x512_1_0_0_1_n_n none x y (constant S2048x512 .f32 0x00000000#32) (ix2 q k)
      = ∑ e : Fin 128, x (ix2 q e) * y (ix2 e k) := by
  refine (Ideal.matmul_constant_zero_apply _ _ _ _ _).trans ?_
  refine (Equiv.sum_comp (contrEquiv1 dot_S2048x128_S128x512_S2048x512_1_0_0_1_n_n 128 rfl rfl).symm _).symm.trans ?_
  refine Finset.sum_congr rfl fun e _ => congrArg₂ (· * ·) (congrArg x ?_) (congrArg y ?_)
  · funext a; match a with | ⟨0, _⟩ => rfl | ⟨1, _⟩ => rfl
  · funext a; match a with | ⟨0, _⟩ => rfl | ⟨1, _⟩ => rfl

/-- The column sum of the squared transposed targets at `k` is the squared length of target `k`. -/
theorem lengths_apply (k : Fin 512) :
    multiReduction .add [0] S512 (mulf y y) 0x00000000#32 reduces_S128x512_S512 (.inl rfl) rfl (ix1 k)
      = ∑ e : Fin 128, y (ix2 e k) * y (ix2 e k) := by
  refine (Ideal.multiReduction_add_single _ _ _ _ _ _).trans (Finset.sum_congr rfl fun e _ => ?_)
  have h : reduces_S128x512_S512.lift (ix1 k) e = ix2 e k := by
    funext a; match a with | ⟨0, _⟩ => rfl | ⟨1, _⟩ => rfl
  rw [h]; rfl

/-- The row minimum of a 2048 × 512 array at `q`. -/
theorem least_apply (z : FVec Ideal S2048x512 .f32) (q : Fin 2048) :
    multiReduction .minimumf [1] S2048 z 0x7F800000#32 reduces_S2048x512_S2048 (.inl rfl) rfl (ix1 q)
      = Maths.least fun k : Fin 512 => z (ix2 q k) := by
  refine (multiReduction_minimumf_eq_fold _ _ _ _ _ _).trans ?_
  rw [reduces_S2048x512_S2048.fold_filter_drop_single]
  show Finset.fold min (Ideal.ofBits .f32 0x7F800000#32) _ _ = _
  rw [bits_top]
  refine congrArg (fun f => Finset.fold min ⊤ f Finset.univ) (funext fun k => congrArg z ?_)
  funext a; match a with | ⟨0, _⟩ => rfl | ⟨1, _⟩ => rfl

/-- The first total: a 2048-vector laid out as one row and summed along it. -/
theorem row_total (z : FVec Ideal S2048 .f32) (j : S1.Idx) :
    multiReduction .add [1] S1 (shapeCast S1x2048 z shapeCasts_S2048_S1x2048) 0x00000000#32 reduces_S1x2048_S1 (.inl rfl) rfl j
      = ∑ q : Fin 2048, z (ix1 q) := by
  refine (Ideal.multiReduction_add_total _ _ _ (fun b => by match b with | ⟨0, _⟩ => rfl) _ _ _).trans ?_
  refine (Equiv.sum_comp (Shape.reshapeEquiv shapeCasts_S2048_S1x2048) z).trans ?_
  exact (Equiv.sum_comp idxEquiv1.symm z).symm

/-- The second total: a 2048 × 128 array given a leading unit axis and summed along both of its own. -/
theorem plane_total (z : FVec Ideal S2048x128 .f32) (j : S1.Idx) :
    multiReduction .add [1, 2] S1 (shapeCast S1x2048x128 z shapeCasts_S2048x128_S1x2048x128) 0x00000000#32
        reduces_S1x2048x128_S1 (.inl rfl) rfl j
      = ∑ q : Fin 2048, ∑ e : Fin 128, z (ix2 q e) := by
  refine (Ideal.multiReduction_add_total _ _ _ (fun b => by match b with | ⟨0, _⟩ => rfl) _ _ _).trans ?_
  exact (Equiv.sum_comp (Shape.reshapeEquiv shapeCasts_S2048x128_S1x2048x128) z).trans (sum_idx2 z)

/-! ## The stored number -/

/-- The candidates of the minimum at point `q` and target `k`. -/
theorem candidate_apply (q : Fin 2048) (k : Fin 512) :
    subf (broadcastTo S2048x512 (shapeCast S1x512 (multiReduction .add [0] S512 (mulf y y) 0x00000000#32
          reduces_S128x512_S512 (.inl rfl) rfl) shapeCasts_S512_S1x512) broadcasts_S1x512_S2048x512)
        (mulf (broadcast S2048x512 (Scalar.ofBits (F := Ideal) .f32 0x40000000#32))
          (matmul dot_S2048x128_S128x512_S2048x512_1_0_0_1_n_n none x y (constant S2048x512 .f32 0x00000000#32))) (ix2 q k)
      = (∑ e : Fin 128, y (ix2 e k) * y (ix2 e k)) - 2 * ∑ e : Fin 128, x (ix2 q e) * y (ix2 e k) := by
  rw [subf_apply, mulf_apply, broadcast_apply, product_apply,
    broadcastTo_apply _ _ _ (ix2 (0 : Fin 1) k) (fun a => by match a with | ⟨0, _⟩ => rfl | ⟨1, _⟩ => rfl),
    shapeCast_addUnit_apply]
  refine congrArg₂ (· - ·) ?_ (congrArg (· * _) bits_two)
  refine Eq.trans (congrArg _ ?_) (lengths_apply y k)
  funext a; match a with | ⟨0, _⟩ => rfl

/-- An element taken out of a reshaped array which has the same value everywhere is that value. -/
theorem extracted {s u : Shape} (v : s.Idx → EReal) (a : EReal) (hv : ∀ j, v j = a) (hc : s.ShapeCasts u)
    (pos : Fin u.rank → Nat) (hp : ∀ b, pos b < u.size b) : extractAt pos (shapeCast u v hc) hp = a :=
  hv _

/-- The sum of the least candidates over the points, as the body takes it. -/
theorem least_total (j : S1.Idx) :
    multiReduction .add [1] S1 (shapeCast S1x2048 (multiReduction .minimumf [1] S2048
        (subf (broadcastTo S2048x512 (shapeCast S1x512 (multiReduction .add [0] S512 (mulf y y) 0x00000000#32
            reduces_S128x512_S512 (.inl rfl) rfl) shapeCasts_S512_S1x512) broadcasts_S1x512_S2048x512)
          (mulf (broadcast S2048x512 (Scalar.ofBits (F := Ideal) .f32 0x40000000#32))
            (matmul dot_S2048x128_S128x512_S2048x512_1_0_0_1_n_n none x y (constant S2048x512 .f32 0x00000000#32))))
        0x7F800000#32 reduces_S2048x512_S2048 (.inl rfl) rfl) shapeCasts_S2048_S1x2048) 0x00000000#32
        reduces_S1x2048_S1 (.inl rfl) rfl j
      = ∑ q : Fin 2048, Maths.least fun k : Fin 512 =>
          (∑ e : Fin 128, y (ix2 e k) * y (ix2 e k)) - 2 * ∑ e : Fin 128, x (ix2 q e) * y (ix2 e k) := by
  refine (row_total _ j).trans (Finset.sum_congr rfl fun q _ => ?_)
  exact (least_apply _ q).trans (congrArg Maths.least (funext fun k => candidate_apply x y q k))

/-- The number the body stores, from the points and the transposed targets. -/
theorem stored_eq (j : S1x1.Idx) :
    k0_pay1 (F := Ideal) x y j
      = Maths.expanded (fun (q : Fin 2048) (e : Fin 128) => x (ix2 q e)) (fun (k : Fin 512) e => y (ix2 e k)) := by
  unfold k0_pay1
  rw [shapeCast_self y]
  have h₁ := extracted _ _ (fun j => least_total x y j) shapeCasts_S1_S1x1 ![0, 0] inpos_S1x1_p0_0
  have h₂ := extracted _ _ (fun j => plane_total (mulf x x) j) shapeCasts_S1_S1x1x1 ![0, 0, 0] inpos_S1x1x1_p0_0_0
  rw [broadcast_apply, Ideal.scalar_addf_def, h₁, h₂]
  unfold Maths.expanded
  rfl

end Cert.Proof.KernelBlock

end
-- ==== Proof.KernelRun.lean ====
/-
  What the kernel program ends holding. @main transposes the targets, runs the kernel once over the whole arrays and
  reads the one element of its 1 × 1 result. So the result is the number the body stores, at the points and the
  transposed targets as launched (`run`).
-/
module

public import proofs.«01_k».proof.Proof.KernelBlock
public import proofs.«01_k».proof.Proof.Gen.KernelIdeal.Frame
public import Idealize.ShloMosaic.Lib.StableHlo.Run
public import Idealize.ShloMosaic.Lib.Pipeline.FrameSuffix

@[expose] public section

noncomputable section

namespace Cert.Proof.KernelRun

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The points of device `c` as launched. -/
abbrev points (c : Dev nD) : FVec Ideal S2048x128 .f32 := m ((c : Thread nD τ).loc main_arg0)
/-- The targets of device `c` as launched. -/
abbrev targets (c : Dev nD) : FVec Ideal S512x128 .f32 := m ((c : Thread nD τ).loc main_arg1)

/-- The number the program returns. -/
def answer (c : Dev nD) : EReal :=
  Maths.expanded (fun (q : Fin 2048) (e : Fin 128) => points m c (ix2 q e)) (fun (k : Fin 512) e => targets m c (ix2 k e))

/-- The kernel is entered with the targets transposed. -/
theorem entry_targets (c : Dev nD) :
    V m c main_v0 = transpose S128x512 [1, 0] (targets m c) transposes_S512x128_S128x512_1_0 := by
  show StableHlo.after (List.flatten [hostOps0]) _ _ = _
  simp only [hostOps0, List.flatten_cons, List.flatten_nil, List.append_nil]
  after_results

/-- Coordinate `e` of target `k` in the transposed array. -/
theorem transposed_apply (t : FVec Ideal S512x128 .f32) (e : Fin 128) (k : Fin 512) :
    transpose S128x512 [1, 0] t transposes_S512x128_S128x512_1_0 (ix2 e k) = t (ix2 k e) :=
  transpose_apply _ _ _ _ _ fun b => by match b with | ⟨0, _⟩ => rfl | ⟨1, _⟩ => rfl

/-- The body's accesses start at the origin. -/
theorem zeros : (![0, 0] : Fin 2 → Nat) = fun _ => 0 := funext fun a => by match a with | ⟨0, _⟩ => rfl | ⟨1, _⟩ => rfl

/-- The points' block is the whole array: its element at a place is the array's element there. -/
theorem whole_points (t : Fin cfg0.N) (i : S2048x128.Idx) : (win0_0.rect t).emb i = i := by
  funext a; exact Fin.ext (win0_0.rect_emb_val_of_index_zero t a rfl i)
/-- So is the transposed targets' … -/
theorem whole_targets (t : Fin cfg0.N) (i : S128x512.Idx) : (win0_1.rect t).emb i = i := by
  funext a; exact Fin.ext (win0_1.rect_emb_val_of_index_zero t a rfl i)
/-- … and the result's. -/
theorem whole_result (t : Fin cfg0.N) (i : S1x1.Idx) : (win0_2.rect t).emb i = i := by
  funext a; exact Fin.ext (win0_2.rect_emb_val_of_index_zero t a rfl i)

/-- What the body leaves in its output block: the answer. -/
theorem block_eq (c : Dev nD) (t : Fin cfg0.N) (j : S1x1.Idx) : out0_2 (iblk m c 0 t) (iblk m c 1 t) j = answer m c := by
  have h0 : iblk m c 0 t = points m c := by
    have : V m c main_arg0 = points m c := V_main_arg0 m c
    rw [← this]
    funext i
    exact congrArg (V m c main_arg0) (whole_points t i)
  have h1 : iblk m c 1 t = transpose S128x512 [1, 0] (targets m c) transposes_S512x128_S128x512_1_0 := by
    rw [← entry_targets]
    funext i
    exact congrArg (V m c main_v0) (whole_targets t i)
  rw [h0, h1]
  unfold out0_2
  rw [View.canon_unit_zero zeros, View.ld_unit_zero zeros, View.ld_unit_zero zeros, KernelBlock.stored_eq]
  exact congrArg (Maths.expanded _) (funext fun k => funext fun e => transposed_apply (targets m c) e k)

/-- The kernel's 1 × 1 result array: the answer in its one place. -/
abbrev filled (c : Dev nD) : Buf (Elt Ideal) ((c : Thread nD τ).loc main_v1) := fun _ => answer m c

/-- What the one grid point writes back is the whole of that array … -/
theorem flushed_eq (c : Dev nD) (t : Fin cfg0.N) :
    (dats m 0 c).flushed 2 t = ((cfg0.win 2).blk t).view.read (Elt Ideal) (filled m c) := by
  show (cfg0.win 2).cut (grid0.coords t) ((dats m 0 c).after 2 t) = _
  rw [after0_2]
  funext j
  exact block_eq m c t _

/-- … and covers it. -/
theorem covered (i : S1x1.Idx) : ∃ t : Fin cfg0.N, (cfg0.win 2).flush t = true ∧ i ∈ ((cfg0.win 2).blk t).view.set := by
  have hN : cfg0.N = 1 := N_0
  refine ⟨⟨0, by omega⟩, flush0_2 _, ?_⟩
  exact Finset.mem_map.mpr ⟨i, Finset.mem_univ _, whole_result _ i⟩

/-- So after the kernel the array holds the answer. -/
theorem array_eq (c : Dev nD) : (dats m 0 c).arrAt 2 cfg0.N = filled m c :=
  (dats m 0 c).arrAt_eq_of_cover 2 (filled m c) (fun t _ => flushed_eq m c t) covered

/-- And the scalar read from it afterwards is the answer. -/
theorem scalar_eq (c : Dev nD) :
    Pipeline.afterTail₀ cfgs (dats m) 0 (V0 m) [hostOps1] c main_v2 = fun _ => answer m c := by
  unfold Pipeline.afterTail₀
  simp only [hostOps1, List.flatten_cons, List.flatten_nil, List.append_nil]
  after_results
  have h : Pipeline.withArrays (τ := τ) (cfgs 0).spec c (V0 m c) (fun w => (dats m 0 c).arrAt w (cfgs 0).N)
      (Proc.devRef .tc main_v1) = filled m c :=
    (Pipeline.withArrays_arr spec0 launch0.win.arr_inj c (V0 m c) (fun w => (dats m 0 c).arrAt w cfg0.N) 2).trans
      (array_eq m c)
  rw [h]
  rfl

/-- Every run of the program ends with its result at the answer and its arguments as launched. -/
theorem run : θ_run defs (onTc (τ := τ) (main (F := Ideal))) ⟨m, fun _ => 0, ρ⟩ fun r => ∀ c : Dev nD,
      r.2.mem ((c.tc : Thread nD τ).loc main_v2) = (fun _ => answer m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v2 (Pipeline.mem_restRefs_of main_v2 (by decide) (by decide))).trans (scalar_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.Proof.KernelRun

end
-- ==== Proof.RefValue.lean ====
/-
  What the reference computes. Its one result is read as `Maths.direct` of the points and the targets (`result_eq`):
  the differences broadcast against each other, squared and summed over the coordinates, the least of these over the
  targets, and the sum of the least over the points.
-/
module

public import proofs.«01_k».proof.Proof.Maths
public import proofs.«01_k».proof.Proof.Literals
public import proofs.«01_k».proof.Proof.Gen.ReferenceIdeal.Read
public import Idealize.ShloMosaic.Lib.ValueIdx
public import Idealize.ShloMosaic.Lib.ValueIdxRank1

@[expose] public section

noncomputable section

namespace Cert.Proof.RefValue

open Cert.Proof.Literals Cert.ReferenceIdeal Cert.ReferenceIdeal.Gen Cert.ReferenceIdeal.Read Idealize.ShloMosaic Idealize.ShloMosaic.ValueIdx

/-- Dropping the second axis of a 2048 × 512 array leaves the first. -/
theorem drops : S2048x512.Reduces [1] S2048 := by decide

variable (x : FVec Ideal S2048x128 .f32) (t : FVec Ideal S512x128 .f32)

/-- The squared distance of point `q` from target `k`. -/
theorem distance_apply (q : Fin 2048) (k : Fin 512) :
    val_main_v6 (F := Ideal) x t (ix2 q k)
      = ∑ e : Fin 128, (t (ix2 k e) - x (ix2 q e)) * (t (ix2 k e) - x (ix2 q e)) := by
  rw [val_main_v6_apply, val_main_cst_apply]
  refine (congrArg (· + _) bits_zero).trans ((zero_add _).trans (Finset.sum_congr rfl fun e _ => ?_))
  rw [val_main_v5_apply, val_main_v4_apply, val_main_v2_apply, val_main_v1_apply, val_main_v3_apply, val_main_v0_apply]
  have ht : idx_main_v1 (idx_main_v2 (idx_main_v6 (ix2 q k) e)) = ix2 k e := by
    funext a; match a with | ⟨0, _⟩ => rfl | ⟨1, _⟩ => rfl
  have hx : idx_main_v0 (idx_main_v3 (idx_main_v6 (ix2 q k) e)) = ix2 q e := by
    funext a; match a with | ⟨0, _⟩ => rfl | ⟨1, _⟩ => rfl
  rw [ht, hx]; rfl

/-- The least squared distance of point `q` from a target. -/
theorem least_apply (q : Fin 2048) :
    val_main_v7 (F := Ideal) x t (ix1 q) = Maths.least fun k : Fin 512 => val_main_v6 (F := Ideal) x t (ix2 q k) := by
  unfold val_main_v7
  rw [Host.reduce_eq_fold_single _ _ _ _ drops]
  show Finset.fold min (Ideal.ofBits .f32 0x7F800000#32) _ _ = _
  rw [bits_top]
  refine congrArg (fun f => Finset.fold min ⊤ f Finset.univ)
    (funext fun k => congrArg (val_main_v6 (F := Ideal) x t) ?_)
  funext a; match a with | ⟨0, _⟩ => rfl | ⟨1, _⟩ => rfl

/-- The reference's result. -/
theorem result_eq (i : S_.Idx) :
    val_main_v8 (F := Ideal) x t i
      = Maths.direct (fun (q : Fin 2048) (e : Fin 128) => x (ix2 q e)) (fun (k : Fin 512) e => t (ix2 k e)) := by
  rw [val_main_v8_apply, val_main_cst_1_apply]
  refine (congrArg (· + _) bits_zero).trans ((zero_add _).trans ?_)
  refine (Equiv.sum_comp idxEquiv1.symm _).symm.trans (Finset.sum_congr rfl fun q _ => ?_)
  refine (least_apply x t q).trans (congrArg Maths.least (funext fun k => distance_apply x t q k))

end Cert.Proof.RefValue

end
-- ==== Proof.Equation.lean ====
/-
  The equation between the two programs: from memories that agree on arguments which are all finite, the kernel program
  and the reference program end with the same number (`algebraic`).
-/
module

public import proofs.«01_k».proof.Defs
public import proofs.«01_k».proof.Proof.Finite
public import proofs.«01_k».proof.Proof.KernelRun
public import proofs.«01_k».proof.Proof.RefValue

@[expose] public section

noncomputable section

namespace Cert.Proof.Equation

open Idealize.ShloMosaic Idealize.ShloMosaic.ValueIdx Idealize.SL.Sem

/-- For finite arguments the reference's result is the kernel program's answer. -/
theorem reference_eq_answer
    (m : (ℓ : Loc Cert.KernelIdeal.nD Cert.KernelIdeal.τ Cert.KernelIdeal.sig) → Buf (Elt Ideal) ℓ)
    (hpre : Cert.Pre_KernelIdeal_finite m) (c : Dev Cert.KernelIdeal.nD) :
    Cert.ReferenceIdeal.Read.val_main_v8 (F := Ideal) (KernelRun.points m c) (KernelRun.targets m c)
      = fun _ => KernelRun.answer m c := by
  funext i
  rw [RefValue.result_eq]
  unfold KernelRun.answer
  exact (Maths.expanded_eq_direct _ _ (fun q e => Finite.points_real _ _ (hpre c).1 (ix2 q e))
    (fun k e => Finite.targets_real _ _ (hpre c).2 (ix2 k e))).symm

/-- The value claim: both programs run and end with equal results. -/
theorem algebraic : Cert.algebraic_KernelIdeal_ReferenceIdeal_pre_finite := by
  intro m g m' g' hpre hagree
  refine ⟨fun c _ => KernelRun.answer m c, KernelRun.run m g, ?_⟩
  refine (θ_run Cert.ReferenceIdeal.defs _ _).mono (fun _ h c => ⟨(h c).1.trans ?_, (h c).2⟩)
    (Cert.ReferenceIdeal.Value.run (F := Ideal) m' g')
  rw [(hagree c).1, (hagree c).2]
  exact (Cert.ReferenceIdeal.Read.val_main_v8_eq _ _).trans (reference_eq_answer m hpre c)

end Cert.Proof.Equation

end
-- ==== Proof.lean ====
/-
  The proof of `Cert.Claim`. The kernel's runs, at machine floats and at exact arithmetic, are the generated frames; the
  reference's run is the generated one, and it has no semaphore whose counter could change; the ideal pass rewrote
  nothing; the value claim is `Equation.algebraic`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The reference ends with its arguments as launched and every counter at zero. -/
theorem reference_frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Everything claimed. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    Equation.algebraic⟩

end Cert.Proof

end
